-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_nonnegative [hPre_ids_nonnegative : Cert.Pre_ids_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_ids_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_nonnegative [hPre_ids_nonnegative : Cert.Pre_ids_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_nonnegative [hKernelIdeal : Cert.KernelIdeal.Facts] [hPre_ids_nonnegative : Cert.Pre_ids_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_nonnegative [hReferenceIdeal : Cert.ReferenceIdeal.Facts] [hPre_ids_nonnegative : Cert.Pre_ids_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_nonnegative [hKernelIdeal : Cert.KernelIdeal.Facts] [hReferenceIdeal : Cert.ReferenceIdeal.Facts] [hPre_ids_nonnegative : Cert.Pre_ids_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_nonnegative : Cert.Pre_ids_nonnegative.Facts),
    quiescent_Kernel (hKernel := hKernel)
    ∧ quiescent_KernelIdeal (hKernelIdeal := hKernelIdeal)
    ∧ quiescent_KernelIdeal_pre_ids_nonnegative (hKernelIdeal := hKernelIdeal) (hPre_ids_nonnegative := hPre_ids_nonnegative)
    ∧ quiescent_ReferenceIdeal (hReferenceIdeal := hReferenceIdeal)
    ∧ quiescent_ReferenceIdeal_pre_ids_nonnegative (hReferenceIdeal := hReferenceIdeal) (hPre_ids_nonnegative := hPre_ids_nonnegative)
    ∧ preserves_Kernel_KernelIdeal
    ∧ algebraic_KernelIdeal_ReferenceIdeal_pre_ids_nonnegative (hKernelIdeal := hKernelIdeal) (hReferenceIdeal := hReferenceIdeal) (hPre_ids_nonnegative := hPre_ids_nonnegative)
-- ==== Pre_ids_nonnegative.lean ====
abbrev S1024x1 : Shape := ⟨2, ![1024, 1]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : IVec S1024x1 32) (main_arg1 : FVec F S_ .f32) (main_arg2 : FVec F S_ .f32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg0 main_v0
  let main_c_0 : IVec S_ 1 := constantI S_ 1 1#1
  let main_v2 : IVec S_ 1 := (fun x v => Host.reduce IntOp.andi x v reducesTo_S1024x1_S_d0_1 h_S_) main_v1 main_c_0
  main_v2
-- ==== Kernel.lean ====
abbrev S1024x1 : Shape := ⟨2, ![1024, 1]⟩
abbrev S_ : Shape := ⟨0, ![]⟩
abbrev S1 : Shape := ⟨1, ![1]⟩
abbrev S2 : Shape := ⟨1, ![2]⟩
abbrev S1024x100000 : Shape := ⟨2, ![1024, 100000]⟩
abbrev S16x1 : Shape := ⟨2, ![16, 1]⟩
abbrev S16x100000 : Shape := ⟨2, ![16, 100000]⟩

abbrev nBuf : Space → Nat
  | .hbm => 9
  | .vmem => 4
  | .smem => 1
  | _ => 0

abbrev bufTy : (tb : Table) → Fin (tcTables nBuf tb) → BufTy
  | .hbm, ⟨0, _⟩ => ⟨S1024x1, .i32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S2, .f32⟩
  | .hbm, ⟨8, _⟩ => ⟨S1024x100000, .f32⟩
  | .local _ .vmem, ⟨0, _⟩ => ⟨S16x1, .i32⟩
  | .local _ .vmem, ⟨1, _⟩ => ⟨S16x1, .i32⟩
  | .local _ .vmem, ⟨2, _⟩ => ⟨S16x100000, .f32⟩
  | .local _ .vmem, ⟨3, _⟩ => ⟨S16x100000, .f32⟩
  | .local _ .smem, ⟨0, _⟩ => ⟨S2, .f32⟩
  | _, _ => ⟨S1024x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x1 : Shape := ⟨2, ![1024, 1]⟩
abbrev S_ : Shape := ⟨0, ![]⟩
abbrev S1024x100000 : Shape := ⟨2, ![1024, 100000]⟩
abbrev S1024 : Shape := ⟨1, ![1024]⟩
abbrev S1024x2 : Shape := ⟨2, ![1024, 2]⟩
abbrev S1 : Shape := ⟨1, ![1]⟩

abbrev nBuf : Space → Nat
  | .hbm => 43
  | .vmem => 0
  | .smem => 0
  | _ => 0

abbrev bufTy : (tb : Table) → Fin (tcTables nBuf tb) → BufTy
  | .hbm, ⟨0, _⟩ => ⟨S1024x1, .i32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S1024x100000, .f32⟩
  | .hbm, ⟨5, _⟩ => ⟨S_, .f32⟩
  | .hbm, ⟨6, _⟩ => ⟨S_, .f32⟩
  | .hbm, ⟨7, _⟩ => ⟨S1024x100000, .f32⟩
  | .hbm, ⟨8, _⟩ => ⟨S1024x100000, .f32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024x100000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S1024, .f32⟩
  | .hbm, ⟨34, _⟩ => ⟨S1024x100000, .f32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .f32⟩
  | .hbm, ⟨39, _⟩ => ⟨S_, .f32⟩
  | .hbm, ⟨40, _⟩ => ⟨S1024x100000, .i1⟩
  | .hbm, ⟨41, _⟩ => ⟨S1024x100000, .f32⟩
  | .hbm, ⟨42, _⟩ => ⟨S1024x100000, .f32⟩
  | _, _ => ⟨S1024x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Proof.Smoothed.lean ====
/- The smoothed distribution itself, over any kind of entry: what belongs at one row and column, and the whole table. -/
module

public import Idealize.ShloMosaic.PureOps
public import Idealize.ShloMosaic.Lib.ValueIdx

@[expose] public section

namespace Cert.Smoothed

open Idealize.ShloMosaic Idealize.ShloMosaic.ValueIdx

/-- The entry at column `q` of a row whose target id is `w`: `zero` in the padding column and all along a row whose
    target is the padding id, `hit` in the target's own column, `rest` everywhere else. -/
def entry {α : Type} (w : BitVec 32) (q : ℕ) (hit rest zero : α) : α :=
  if q = 0 ∨ w = 0#32 then zero else if w.toNat = q then hit else rest

/-- The table of `entry` over 1024 target ids, one in each row, and 100000 columns. -/
def table {α : Type} (ids : IVec ⟨2, ![1024, 1]⟩ 32) (hit rest zero : α) : (⟨2, ![1024, 100000]⟩ : Shape).Idx → α :=
  fun i => entry (ids (ix2 (i 0) (0 : Fin 1))) (i 1).val hit rest zero

end Cert.Smoothed
-- ==== Proof.Block.lean ====
/- What one grid point of the kernel computes: every entry of the block it stores is the smoothed entry of that row's
   target id, out of the two words held in scalar memory. -/
module

public import proofs.«01_k».proof.Proof.Gen.KernelIdeal.Value
public import proofs.«01_k».proof.Proof.Smoothed
public import Idealize.ShloMosaic.Lib.WordCmp

@[expose] public section

noncomputable section

namespace Cert.Block

open Cert.KernelIdeal Cert.KernelIdeal.Gen Cert.Smoothed
open Idealize.ShloMosaic Idealize.ShloMosaic.ValueIdx

variable {F : FTy → Type} [FloatOps F]

/-- The float zero that the kernel writes. -/
abbrev zeroF : F .f32 := Scalar.ofBits .f32 0x00000000#32

/-- A column number below 100000, as a word, equals a word exactly when it is that word's value. -/
theorem col_eq_iff (w : BitVec 32) (q : ℕ) (hq : q < 100000) : BitVec.ofNat 32 q = w ↔ w.toNat = q := by
  rw [← BitVec.toNat_inj, WordCmp.toNat_ofNat_of_lt (by omega)]
  exact eq_comm

/-- The stored block at row `j 0` and column `j 1` is the smoothed entry of that row's id. -/
theorem pay_apply (a b : F .f32) (x : Vec F S16x1 .i32) (j : S16x100000.Idx) :
    k0_pay1 (F := F) a b x j = entry (x (ix2 (j 0) (0 : Fin 1))) (j 1).val a b zeroF := by
  have hq : (j 1).val < 100000 := idx2_lt1 j
  have hb : ∀ {β : Type} (y : S16x1.Idx → β), broadcastTo S16x100000 y broadcasts_S16x1_S16x100000 j = y (ix2 (j 0) (0 : Fin 1)) :=
    fun y => broadcastTo_apply y _ j _ fun ax => by
      match ax with
      | ⟨0, _⟩ => rfl
      | ⟨1, _⟩ => rfl
  show Scalar.select (IntOp.ori (IntOp.cmpi .eq (iota .tc S16x100000 32 [1] iota_S16x100000_d1_w32 j) 0#32)
        (broadcastTo S16x100000 (cmpi .eq x (broadcast S16x1 0#32)) broadcasts_S16x1_S16x100000 j)) zeroF
      (Scalar.select (IntOp.cmpi .eq (iota .tc S16x100000 32 [1] iota_S16x100000_d1_w32 j)
        (broadcastTo S16x100000 x broadcasts_S16x1_S16x100000 j)) a b) = _
  rw [iota_single_apply, hb, hb]
  show Scalar.select (IntOp.ori _ (IntOp.cmpi .eq (x (ix2 (j 0) (0 : Fin 1))) 0#32)) _ _ = _
  simp only [WordCmp.cmpi_eq_eq, WordCmp.ori_ofBool, ← Bool.decide_or, WordCmp.select_decide, col_eq_iff _ _ hq, entry]
  simp [eq_comm]

/-- Word `k` of the pair in scalar memory. -/
abbrev word (k : Fin 2) : S2.Idx := ix1 k

/-- The corner of a matrix, spelt as a constant. -/
theorem corner : (![0, 0] : Fin 2 → Nat) = fun _ => 0 := funext fun a => by fin_cases a <;> rfl

/-- What a grid point leaves in its output buffer, from the pair `s` and the ids `x` of its sixteen rows. -/
theorem point_eq (c : Dev nD) (i : grid0.Coords) (arg1 : Memref sig .tc .smem S2 .f32) (h1 : arg1.IsWhole)
    (arg2 : Memref sig .tc .vmem S16x1 .i32) (h2 : arg2.IsWhole) (arg3 : Memref sig .tc .vmem S16x100000 .f32)
    (h3 : arg3.IsWhole) (s : Vec F S2 .f32) (x : Vec F S16x1 .i32) :
    out0_A_2 c i arg1 h1 arg2 h2 arg3 h3 s x = k0_pay1 (F := F) (s (word 0)) (s (word 1)) x := by
  unfold out0_A_2
  rw [View.read_writes_junk_eq_canon]
  show View.canon ([⟨Rect.unit ![0, 0] S16x100000.size inb_S16x100000_S16x100000_0_0,
      k0_pay1 (F := F)
        (View.readAt (Elt F) arg1.view (Rect.unit (s := S2) ![0] S1.size inb_S2_S1_0).toLoadRect (h1.unread s) _)
        (View.readAt (Elt F) arg1.view (Rect.unit (s := S2) ![1] S1.size inb_S2_S1_1).toLoadRect (h1.unread s) _)
        (View.readAt (Elt F) arg2.view (Rect.unit (s := S16x1) ![0, 0] S16x1.size inb_S16x1_S16x1_0_0).toLoadRect (h2.unread x))⟩] :
      List (View.Piece (Elt F) S16x100000 .f32)) = _
  rw [View.canon_unit_zero corner, View.readAt_eq_ld, View.readAt_eq_ld, View.readAt_eq_ld, h1.read_unread, h2.read_unread,
    View.ld_unit_zero corner]
  have e0 : ∀ p, View.ld s (Rect.unit (s := S2) ![0] S1.size inb_S2_S1_0) p = s (word 0) := fun p =>
    congrArg s ((eq_ix1 _).trans (congrArg ix1 (Fin.ext (by
      have hp : (p 0).val < 1 := (p 0).isLt
      show 0 + 1 * (p 0).val = 0
      omega))))
  have e1 : ∀ p, View.ld s (Rect.unit (s := S2) ![1] S1.size inb_S2_S1_1) p = s (word 1) := fun p =>
    congrArg s ((eq_ix1 _).trans (congrArg ix1 (Fin.ext (by
      have hp : (p 0).val < 1 := (p 0).isLt
      show 1 + 1 * (p 0).val = 1
      omega))))
  rw [e0, e1]

end Cert.Block

end
-- ==== Proof.Filled.lean ====
/- What the kernel's result array holds after the run: the smoothed table of its ids, its confidence, and its smoothing
   divided by 99998. -/
module

public import proofs.«01_k».proof.Proof.Block
public import Idealize.ShloMosaic.Lib.Claim
public import Idealize.ShloMosaic.Lib.Routing.Ops

@[expose] public section

noncomputable section

namespace Cert.Filled

open Cert.KernelIdeal Cert.KernelIdeal.Gen Cert.KernelIdeal.Value Cert.Smoothed Cert.Block
open Idealize.ShloMosaic Idealize.ShloMosaic.TcCoe Idealize.ShloMosaic.ValueIdx Idealize.SL.Sem

variable {F : FTy → Type} [FloatOps F]

/-- The smoothing spread over the columns that are neither the target nor the padding. -/
def spread (smoothing : FVec F S_ .f32) : F .f32 := Host.divf smoothing (constant S_ .f32 0x47C34F00#32) ix0

/-- The result as one function of the three arguments. -/
def result (ids : IVec S1024x1 32) (confidence smoothing : FVec F S_ .f32) : FVec F S1024x100000 .f32 :=
  table ids (confidence ix0) (spread smoothing) zeroF

variable (m : (ℓ : Loc nD τ sig) → Buf (Elt F) ℓ) (ρ : Dev nD → PrngReg)

/-- The pair in scalar memory as the grid finds it: the confidence, then the spread smoothing. -/
theorem pair_eq (c : Dev nD) :
    (V m c main_v3 : FVec F S2 .f32) (word 0) = (m ((c : Thread nD τ).loc main_arg1) : FVec F S_ .f32) ix0
      ∧ (V m c main_v3 : FVec F S2 .f32) (word 1) = spread (F := F) (m ((c : Thread nD τ).loc main_arg2)) := by
  entry_read
  constructor
  · refine (concatenate_pair_apply_left (t := S2) (s₁ := S1) (s₂ := S1) 0 _ _ _ (word 0) rfl (ix1 (0 : Fin 1)) fun b => ?_).trans
      (Routing.bc0 _ _ _)
    match b with
    | ⟨0, _⟩ => rfl
  · refine (concatenate_pair_apply_right (t := S2) (s₁ := S1) (s₂ := S1) 0 _ _ _ (word 1) rfl rfl (ix1 (0 : Fin 1)) (fun b hb => ?_) rfl).trans
      (Routing.bc0 _ _ _)
    match b with
    | ⟨0, _⟩ => exact absurd rfl hb

/-- Grid point `t` reads the whole pair, sixteen rows of ids from row `16 t`, and writes the same sixteen rows. -/
theorem index_eq : ∀ t : Fin cfg0.N, win0_0.index t (0 : Fin 1) = 0
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- Row `p` of grid point `t`'s rows, as a row of the whole array. -/
def row (t : Fin cfg0.N) (p : Fin 16) : Fin 1024 := ⟨t.val * 16 + p.val, by
  have h := t.isLt
  have hN : cfg0.N = 64 := N_0
  omega⟩

/-- The pair's block is the pair itself. -/
theorem emb_pair (t : Fin cfg0.N) (j : S2.Idx) : ((cfg0.win 0).blk t).view.emb j = j := by
  have e := (index_eq t).1
  funext a; apply Fin.ext
  match a with
  | ⟨0, _⟩ => show win0_0.index t (0 : Fin 1) * 2 + 1 * (j 0).val = (j 0).val; omega

/-- An entry of the ids' block is an entry of the ids, sixteen rows further down at each grid point. -/
theorem emb_ids (t : Fin cfg0.N) (j : S16x1.Idx) : ((cfg0.win 1).blk t).view.emb j = ix2 (row t (j 0)) (j 1) := by
  obtain ⟨e0, e1⟩ := (index_eq t).2.1
  funext a; apply Fin.ext
  match a with
  | ⟨0, _⟩ => show win0_1.index t (0 : Fin 2) * 16 + 1 * (j 0).val = t.val * 16 + (j 0).val; omega
  | ⟨1, _⟩ => show win0_1.index t (1 : Fin 2) * 1 + 1 * (j 1).val = (j 1).val; omega

/-- An entry of the output's block is an entry of the result, in the same rows and in its own column. -/
theorem emb_out (t : Fin cfg0.N) (j : S16x100000.Idx) : ((cfg0.win 2).blk t).view.emb j = ix2 (row t (j 0)) (j 1) := by
  obtain ⟨e0, e1⟩ := (index_eq t).2.2
  funext a; apply Fin.ext
  match a with
  | ⟨0, _⟩ => show win0_2.index t (0 : Fin 2) * 16 + 1 * (j 0).val = t.val * 16 + (j 0).val; omega
  | ⟨1, _⟩ => show win0_2.index t (1 : Fin 2) * 100000 + 1 * (j 1).val = (j 1).val; omega

/-- The pair that a grid point reads is the whole pair. -/
theorem pair_block (c : Dev nD) (t : Fin cfg0.N) (j : S2.Idx) : (iblk m c 0 t : Vec F S2 .f32) j = V m c main_v3 j := by
  show V m c main_v3 (((cfg0.win 0).blk t).view.emb j) = V m c main_v3 j
  rw [emb_pair]

/-- The ids that a grid point reads are its own sixteen rows of the argument. -/
theorem ids_block (c : Dev nD) (t : Fin cfg0.N) (j : S16x1.Idx) :
    (iblk m c 1 t : Vec F S16x1 .i32) j = (m ((c : Thread nD τ).loc main_arg0) : IVec S1024x1 32) (ix2 (row t (j 0)) (j 1)) := by
  show V m c main_arg0 (((cfg0.win 1).blk t).view.emb j) = _
  rw [emb_ids, V_main_arg0]
  rfl

/-- What grid point `t` writes back is its sixteen rows of the result. -/
theorem written_eq (c : Dev nD) (t : Fin cfg0.N) :
    (dats m 0 c).flushed 2 t = ((cfg0.win 2).blk t).view.read (Elt F) (result (F := F) (m ((c : Thread nD τ).loc main_arg0))
      (m ((c : Thread nD τ).loc main_arg1)) (m ((c : Thread nD τ).loc main_arg2))) := by
  rw [flushed2_A, point_eq]
  funext j
  show k0_pay1 (F := F) _ _ _ (j : S16x100000.Idx) = result (F := F) _ _ _ (((cfg0.win 2).blk t).view.emb j)
  rw [pay_apply, emb_out, pair_block, pair_block, (pair_eq m c).1, (pair_eq m c).2, ids_block]
  rfl

/-- Every row lies in the block of some grid point. -/
theorem covered (i : S1024x100000.Idx) :
    ∃ t : Fin cfg0.N, (cfg0.win 2).flush t = true ∧ i ∈ ((cfg0.win 2).blk t).view.set := by
  have h0 : (i 0).val < 1024 := idx2_lt0 i
  have hN : cfg0.N = 64 := N_0
  have ht : (i 0).val / 16 < cfg0.N := by omega
  have e : ((cfg0.win 2).blk ⟨(i 0).val / 16, ht⟩).view.emb (ix2 (⟨(i 0).val % 16, by omega⟩ : Fin 16) (i 1) : S16x100000.Idx) = i :=
    (emb_out _ _).trans ((congrArg (fun r : Fin 1024 => (ix2 r (i 1) : S1024x100000.Idx))
      (Fin.ext (Nat.div_add_mod' (i 0).val 16))).trans (eq_ix2 i).symm)
  refine ⟨⟨(i 0).val / 16, ht⟩, flush0_2 _, ?_⟩
  have h := ((cfg0.win 2).blk ⟨(i 0).val / 16, ht⟩).view.emb_mem_set (ix2 (⟨(i 0).val % 16, by omega⟩ : Fin 16) (i 1) : S16x100000.Idx)
  rwa [e] at h

/-- The kernel's run: its result array ends at `result` of its arguments, which stay as they were. -/
theorem run : θ_run defs (onTc (τ := τ) (main (F := F))) ⟨m, fun _ => 0, ρ⟩ fun r => ∀ c : Dev nD,
      r.2.mem ((c : Thread nD τ).loc main_v4) = result (F := F) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 2 _ (fun t _ => written_eq m c t) covered), (h c).2⟩)
    (run_blocks m ρ)

end Cert.Filled

end
-- ==== Proof.PairScatter.lean ====
/- Two scatters that set: one entry in each row at a column named by a word, and one whole column. -/
module

public import Idealize.ShloMosaic.Lib.Routing.OpsOne

@[expose] public section

namespace Cert.PairScatter

open Idealize.ShloMosaic Idealize.ShloMosaic.ValueIdx Idealize.ShloMosaic.Routing

/-- The dimension numbers of `x.at[rows, cols].set(v)` over an `R × C` matrix, with `n` rows and columns named. -/
abbrev pairDims (R C n : ℕ) (h : ScatterDims.WF (shape2 R C) (shape2 n 2) (shape1 n) [] [0, 1] [0, 1] 1) :
    ScatterDims (shape2 R C) (shape2 n 2) (shape1 n) where
  updateWindowDims := []
  insertedWindowDims := [0, 1]
  scatterDimsToOperandDims := [0, 1]
  indexVectorDim := 1
  wf := h

/-- Update `b` lands at row `r`, column `q` exactly when its two words, read signed, are `r` and `q`. -/
theorem pair_lands {R C n w : ℕ} (h : ScatterDims.WF (shape2 R C) (shape2 n 2) (shape1 n) [] [0, 1] [0, 1] 1)
    (idx : IVec (shape2 n 2) w) (b : Fin n) (r : Fin R) (q : Fin C) :
    (pairDims R C n h).resultIdx? (ix1 b) idx = some (ix2 r q)
      ↔ (idx (ix2 b (0 : Fin 2))).toInt = r.val ∧ (idx (ix2 b (1 : Fin 2))).toInt = q.val := by
  have start : ∀ a : Fin 2, (pairDims R C n h).start (ix1 b) idx a = (idx (ix2 b a)).toInt := fun a => by
    unfold ScatterDims.start
    rw [dif_pos (by fin_cases a <;> simp)]
    refine congrArg (fun z => (idx z).toInt) (funext fun x => Fin.ext ?_)
    match x with
    | ⟨0, _⟩ => rfl
    | ⟨1, _⟩ => fin_cases a <;> rfl
  have window : ∀ a : Fin 2, (pairDims R C n h).window (ix1 b) a = 0 := fun a => by
    unfold ScatterDims.window
    rw [dif_neg (by fin_cases a <;> exact of_decide_eq_false rfl)]
  rw [resultIdx?_ix2, start, start, window, window, Int.natCast_zero, Int.add_zero, Int.add_zero]

/-- Where update `b` names row `b`, setting one entry in each row: the entry at row `r`, column `q` is the update if row
    `r`'s column word is `q`, and is left alone otherwise. -/
theorem pair_set {α : Type} {R C : ℕ} (h : ScatterDims.WF (shape2 R C) (shape2 R 2) (shape1 R) [] [0, 1] [0, 1] 1)
    (x : (shape2 R C).Idx → α) (idx : IVec (shape2 R 2) 32) (upd : (shape1 R).Idx → α)
    (hrow : ∀ b : Fin R, (idx (ix2 b (0 : Fin 2))).toInt = b.val) (r : Fin R) (q : Fin C) :
    Host.scatter (pairDims R C R h) (fun _ b => b) x idx upd (ix2 r q)
      = if (idx (ix2 r (1 : Fin 2))).toInt = q.val then upd (ix1 r) else x (ix2 r q) := by
  have only : ∀ k : (shape1 R).Idx, (pairDims R C R h).resultIdx? k idx = some (ix2 r q) →
      k = ix1 r ∧ (idx (ix2 r (1 : Fin 2))).toInt = q.val := fun k hk => by
    rw [eq_ix1 k] at hk ⊢
    obtain ⟨e0, e1⟩ := (pair_lands h idx _ r q).1 hk
    have e : k 0 = r := Fin.ext (Int.ofNat_inj.1 ((hrow (k 0)).symm.trans e0))
    rw [e] at e1 ⊢
    exact ⟨rfl, e1⟩
  by_cases e : (idx (ix2 r (1 : Fin 2))).toInt = q.val
  · rw [if_pos e]
    exact scatter_set_hit _ x idx upd _ _ (fun k hk => congrArg upd (only k hk).1) (ix1 r) ((pair_lands h idx r r q).2 ⟨hrow r, e⟩)
  · rw [if_neg e]
    exact scatter_set_miss _ x idx upd _ fun k hk => e (only k hk).2

/-- Setting column `k`: the update down that column, every other entry left alone. -/
theorem column_set {α : Type} {R C : ℕ} (d : ScatterDims (shape2 R C) (shape1 1) (shape1 R)) (hi : d.insertedWindowDims = [1])
    (hs : d.scatterDimsToOperandDims = [1]) (x : (shape2 R C).Idx → α) (idx : IVec (shape1 1) 32) (upd : (shape1 R).Idx → α)
    (k : Fin C) (hk : (idx (ix1 (0 : Fin 1))).toInt = k.val) (r : Fin R) (q : Fin C) :
    Host.scatter d (fun _ b => b) x idx upd (ix2 r q) = if q = k then upd (ix1 r) else x (ix2 r q) := by
  have only : ∀ z : (shape1 R).Idx, d.resultIdx? z idx = some (ix2 r q) → z = ix1 r ∧ q = k := fun z hz => by
    rw [eq_ix1 z] at hz ⊢
    exact ⟨congrArg ix1 ((lands_col d hi hs idx k hk _ r q).1 hz).1, ((lands_col d hi hs idx k hk _ r q).1 hz).2⟩
  split
  · next e => exact scatter_set_hit d x idx upd _ _ (fun z hz => congrArg upd (only z hz).1) (ix1 r) ((lands_col d hi hs idx k hk r r q).2 ⟨rfl, e⟩)
  · next e => exact scatter_set_miss d x idx upd _ fun z hz => e (only z hz).2

end Cert.PairScatter
-- ==== Proof.RefTable.lean ====
/- What the reference computes: where no id is negative, its two scatters and its select make the smoothed table. -/
module

public import proofs.«01_k».proof.Proof.Gen.ReferenceIdeal.Run
public import proofs.«01_k».proof.Proof.Gen.Pre_ids_nonnegative
public import proofs.«01_k».proof.Proof.Smoothed
public import proofs.«01_k».proof.Proof.PairScatter
public import Idealize.ShloMosaic.Lib.ReduceAll
public import Idealize.ShloMosaic.Lib.IdealHost
public import Idealize.ShloMosaic.Lib.Pipeline.Value

@[expose] public section

noncomputable section

namespace Cert.RefTable

open Cert.ReferenceIdeal Cert.ReferenceIdeal.Gen Cert.Smoothed Cert.PairScatter
open Idealize.ShloMosaic Idealize.ShloMosaic.TcCoe Idealize.ShloMosaic.ValueIdx Idealize.ShloMosaic.Routing Idealize.SL.Sem

/-- The precondition, read: every id is a word below half of the range, that is, not negative. -/
theorem ids_lt {F : FTy → Type} [FloatOps F] (ids : IVec S1024x1 32) (a b : FVec F S_ .f32)
    (h : Cert.Pre_ids_nonnegative.fn (F := F) ids a b = fun _ => 1#1) (r : Fin 1024) :
    (ids (ix2 r (0 : Fin 1))).toNat < 2 ^ 31 := by
  haveI : Subsingleton (Cert.Pre_ids_nonnegative.S_).Idx := ⟨fun x y => (eq_ix0 x).trans (eq_ix0 y).symm⟩
  have e := Host.reduce_andi_all _ _ _ _ ix0 (congrFun h ix0) (ix2 r (0 : Fin 1))
  change IntOp.cmpi .sge (ids (ix2 r (0 : Fin 1))) 0#32 = 1#1 at e
  rwa [WordCmp.cmpi_sge_zero, WordCmp.ofBool_decide_eq_one_iff] at e

/-- The words by which each row names its entry: its own number beside its id, each wrapped if negative. -/
abbrev names (ids : IVec S1024x1 32) : IVec S1024x2 32 :=
  concatenate S1024x2 1
    [⟨S1024x1, broadcastInDim S1024x1 ![0] bcast_S1024_S1024x1_0
        (select (cmpi .slt (iotaInDim S1024 32 0) (broadcastInDim S1024 ![] bcast_S_S1024 (constantI S_ 32 0#32)))
          (addi (iotaInDim S1024 32 0) (broadcastInDim S1024 ![] bcast_S_S1024 (constantI S_ 32 1024#32))) (iotaInDim S1024 32 0))⟩,
      ⟨S1024x1, broadcastInDim S1024x1 ![0] bcast_S1024_S1024x1_0
        (select (cmpi .slt (shapeCast S1024 ids shapeCasts_S1024x1_S1024) (broadcastInDim S1024 ![] bcast_S_S1024 (constantI S_ 32 0#32)))
          (addi (shapeCast S1024 ids shapeCasts_S1024x1_S1024) (broadcastInDim S1024 ![] bcast_S_S1024 (constantI S_ 32 100000#32)))
          (shapeCast S1024 ids shapeCasts_S1024x1_S1024))⟩]
    concatenates_S1024x1_S1024x1_S1024x2_d1

/-- The first word of row `r` is `r`. -/
theorem names_row (ids : IVec S1024x1 32) (r : Fin 1024) : (names ids (ix2 r (0 : Fin 2))).toInt = r.val := by
  have hr := r.isLt
  have e : names ids (ix2 r (0 : Fin 2)) = BitVec.ofNat 32 r.val := by
    refine (concatenate_pair_apply_left (t := S1024x2) (s₁ := S1024x1) (s₂ := S1024x1) 1 _ _ _ (ix2 r (0 : Fin 2)) rfl (ix2 r (0 : Fin 1))
      fun b => ?_).trans ((bcCol _ _ r).trans (wrap_of_lt _ _ ?_))
    · match b with
      | ⟨0, _⟩ => rfl
      | ⟨1, _⟩ => rfl
    · show (BitVec.ofNat 32 r.val).toNat < 2 ^ 31
      rw [WordCmp.toNat_ofNat_of_lt (by omega)]
      omega
  rw [e, WordCmp.toInt_ofNat_of_lt (by omega)]

/-- The second word of row `r` is its id, where that is not negative. -/
theorem names_col (ids : IVec S1024x1 32) (r : Fin 1024) (h : (ids (ix2 r (0 : Fin 1))).toNat < 2 ^ 31) :
    (names ids (ix2 r (1 : Fin 2))).toInt = (ids (ix2 r (0 : Fin 1))).toNat := by
  have ec : shapeCast S1024 ids shapeCasts_S1024x1_S1024 (ix1 r) = ids (ix2 r (0 : Fin 1)) :=
    cast21 ids _ r (0 : Fin 1) r (by show r.val = r.val * 1 + 0; omega)
  have e : names ids (ix2 r (1 : Fin 2)) = shapeCast S1024 ids shapeCasts_S1024x1_S1024 (ix1 r) := by
    refine (concatenate_pair_apply_right (t := S1024x2) (s₁ := S1024x1) (s₂ := S1024x1) 1 _ _ _ (ix2 r (1 : Fin 2)) rfl rfl (ix2 r (0 : Fin 1))
      (fun b hb => ?_) rfl).trans ((bcCol _ _ r).trans (wrap_of_lt _ _ (by rw [ec]; exact h)))
    match b with
    | ⟨0, _⟩ => rfl
    | ⟨1, _⟩ => exact absurd rfl hb
  rw [e, ec, WordCmp.toInt_eq_toNat_of_lt_half h]

/-- The reference's result as one function of its three arguments. -/
abbrev value (ids : IVec S1024x1 32) (confidence smoothing : FVec Ideal S_ .f32) : FVec Ideal S1024x100000 .f32 :=
  select (broadcastInDim S1024x100000 ![0, 1] bcast_S1024x1_S1024x100000_0_1
      (cmpi .eq ids (broadcastInDim S1024x1 ![] bcast_S_S1024x1 (constantI S_ 32 0#32))))
    (broadcastInDim S1024x100000 ![] bcast_S_S1024x100000 (id (constant S_ .f32 0x00000000#32)))
    (Host.scatter scatter_S1024x100000_S1_S1024_0_1_1_0 (fun _ b => b)
      (Host.scatter scatter_S1024x100000_S1024x2_S1024_n_01_01_1 (fun _ b => b)
        (mulf (broadcastInDim S1024x100000 ![] bcast_S_S1024x100000 (constant S_ .f32 0x3F800000#32))
          (broadcastInDim S1024x100000 ![] bcast_S_S1024x100000 (Host.divf smoothing (constant S_ .f32 0x47C34F00#32))))
        (names ids) (broadcastInDim S1024 ![] bcast_S_S1024 confidence))
      (broadcastInDim S1 ![] bcast_S_S1 (constantI S_ 32 0#32))
      (broadcastInDim S1024 ![] bcast_S_S1024 (constant S_ .f32 0x00000000#32)))

/-- One times the spread smoothing is the spread smoothing, in every entry of the table that the scatters start from. -/
theorem start_apply (x : FVec Ideal S_ .f32) (i : S1024x100000.Idx) :
    mulf (broadcastInDim S1024x100000 ![] bcast_S_S1024x100000 (constant (F := Ideal) S_ .f32 0x3F800000#32))
      (broadcastInDim S1024x100000 ![] bcast_S_S1024x100000 x) i = x ix0 := by
  show Ideal.ofBits .f32 0x3F800000#32 * broadcastInDim S1024x100000 ![] bcast_S_S1024x100000 x i = x ix0
  rw [bc0, Ideal.ofBits_one_f32, one_mul]

/-- Where no id is negative, the reference's result is the smoothed table of its arguments. -/
theorem value_eq (ids : IVec S1024x1 32) (confidence smoothing : FVec Ideal S_ .f32)
    (h : ∀ r : Fin 1024, (ids (ix2 r (0 : Fin 1))).toNat < 2 ^ 31) :
    value ids confidence smoothing = table ids (confidence ix0)
      (Host.divf smoothing (constant (F := Ideal) S_ .f32 0x47C34F00#32) ix0) (Scalar.ofBits .f32 0x00000000#32) := by
  funext i
  obtain ⟨r, q, rfl⟩ : ∃ (r : Fin 1024) (q : Fin 100000), i = ix2 r q := ⟨i 0, i 1, eq_ix2 i⟩
  have mask : broadcastInDim S1024x100000 ![0, 1] bcast_S1024x1_S1024x100000_0_1
      (cmpi .eq ids (broadcastInDim S1024x1 ![] bcast_S_S1024x1 (constantI S_ 32 0#32))) (ix2 r q)
      = BitVec.ofBool (decide (ids (ix2 r (0 : Fin 1)) = 0#32)) :=
    (broadcastInDim_apply _ _ _ _ (ix2 r (0 : Fin 1)) fun a => by
      match a with
      | ⟨0, _⟩ => rfl
      | ⟨1, _⟩ => rfl).trans (WordCmp.cmpi_eq_eq _ _)
  have named : Host.scatter scatter_S1024x100000_S1024x2_S1024_n_01_01_1 (fun _ b => b)
        (mulf (broadcastInDim S1024x100000 ![] bcast_S_S1024x100000 (constant (F := Ideal) S_ .f32 0x3F800000#32))
          (broadcastInDim S1024x100000 ![] bcast_S_S1024x100000 (Host.divf smoothing (constant S_ .f32 0x47C34F00#32))))
        (names ids) (broadcastInDim S1024 ![] bcast_S_S1024 confidence) (ix2 r q)
      = if (ids (ix2 r (0 : Fin 1))).toNat = q.val then confidence ix0
        else Host.divf smoothing (constant (F := Ideal) S_ .f32 0x47C34F00#32) ix0 := by
    refine (pair_set (R := 1024) (C := 100000) scatter_S1024x100000_S1024x2_S1024_n_01_01_1.wf _ (names ids) _ (names_row ids) r q).trans ?_
    rw [names_col ids r (h r), start_apply, bc0]
    exact if_congr Int.ofNat_inj rfl rfl
  show Scalar.select _ (broadcastInDim S1024x100000 ![] bcast_S_S1024x100000 (id (constant (F := Ideal) S_ .f32 0x00000000#32)) (ix2 r q)) _ = _
  rw [mask, WordCmp.select_decide, column_set (R := 1024) (C := 100000) scatter_S1024x100000_S1_S1024_0_1_1_0 rfl rfl _ _ _ (0 : Fin 100000) rfl r q,
    named, bc0, bc0]
  show _ = entry (ids (ix2 r (0 : Fin 1))) q.val _ _ _
  unfold entry
  have hq : q = 0 ↔ q.val = 0 := Fin.ext_iff
  by_cases h0 : ids (ix2 r (0 : Fin 1)) = 0#32
  · rw [if_pos h0, if_pos (Or.inr h0)]
    rfl
  · rw [if_neg h0]
    by_cases h1 : q = 0
    · rw [if_pos h1, if_pos (Or.inl (hq.1 h1))]
      rfl
    · rw [if_neg h1, if_neg (not_or.2 ⟨fun e => h1 (hq.2 e), h0⟩)]

end Cert.RefTable

end
-- ==== Proof.lean ====
module

public import proofs.«01_k».proof.Proof.Gen.KernelIdeal.Value
public import proofs.«01_k».proof.Proof.Gen.ReferenceIdeal.Run
public import proofs.«01_k».proof.Proof.Filled
public import proofs.«01_k».proof.Proof.RefTable
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ids_nonnegative
public import Idealize.ShloMosaic.Adequacy
public import Idealize.ShloMosaic.Init

@[expose] public section

noncomputable section

namespace Cert.Proof

open Idealize.ShloMosaic Idealize.SL.Sem

/-- The reference runs, keeps its arguments, and leaves every counter at zero: it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0 :=
  (θ_run Cert.ReferenceIdeal.defs _ _).mono (fun r h => ⟨fun c => (h c).2, sem_eq_zero_of_no_sems (by decide) r.2⟩)
    (Cert.ReferenceIdeal.Value.run (F := Ideal) m g)

/-- From equal arguments, no id negative, the kernel and the reference end with the same result: the smoothed table. -/
theorem equal_results : Cert.algebraic_KernelIdeal_ReferenceIdeal_pre_ids_nonnegative := by
  intro m g m' g' pre same
  refine ⟨fun c => Cert.Filled.result (F := Ideal) (m ((c.tc : Thread _ _).loc Cert.KernelIdeal.main_arg0))
    (m ((c.tc : Thread _ _).loc Cert.KernelIdeal.main_arg1)) (m ((c.tc : Thread _ _).loc Cert.KernelIdeal.main_arg2)),
    Cert.Filled.run m g, ?_⟩
  refine (θ_run Cert.ReferenceIdeal.defs _ _).mono (fun r h c => ⟨(h c).1.trans ?_, (h c).2⟩) (Cert.ReferenceIdeal.Value.run (F := Ideal) m' g')
  rw [(same c).1, (same c).2.1, (same c).2.2]
  exact Cert.RefTable.value_eq _ _ _ (Cert.RefTable.ids_lt _ _ _ (pre c))

/-- All the claims: both forms of the kernel and the reference run and keep their arguments, the kernel's ideal form is
    its own text, and the results are equal. -/
theorem claim : Cert.Claim :=
  ⟨Cert.Kernel.Gen.facts, Cert.KernelIdeal.Gen.facts, Cert.ReferenceIdeal.Gen.facts, Cert.Pre_ids_nonnegative.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal_results⟩

end Cert.Proof

end
